-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x64 : Shape := ⟨2, ![32768, 64]⟩
abbrev S64x64 : Shape := ⟨2, ![64, 64]⟩
abbrev S64 : Shape := ⟨1, ![64]⟩
abbrev S_ : Shape := ⟨0, ![]⟩

class Facts : Prop where
  bcast_S_S32768x64 : S_.BroadcastsInDim S32768x64 (![] : Fin 0 → Fin S32768x64.rank)
  bcast_S_S64x64 : S_.BroadcastsInDim S64x64 (![] : Fin 0 → Fin S64x64.rank)

variable [Facts]

def fn {F : FTy → Type} [FloatOps F] (main_arg0 : FVec F S32768x64 .f32) (main_arg1 : FVec F S64x64 .f32) (main_arg2 : FVec F S64 .f32) : IVec S32768x64 1 × IVec S64x64 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  (main_v2, main_v5)
-- ==== Kernel.lean ====
abbrev S32768x64 : Shape := ⟨2, ![32768, 64]⟩
abbrev S64x64 : Shape := ⟨2, ![64, 64]⟩
abbrev S64 : Shape := ⟨1, ![64]⟩
abbrev S64x32768 : Shape := ⟨2, ![64, 32768]⟩
abbrev S64x1 : Shape := ⟨2, ![64, 1]⟩
abbrev S4x1x8192 : Shape := ⟨3, ![4, 1, 8192]⟩
abbrev S32768 : Shape := ⟨1, ![32768]⟩
abbrev S64x8192 : Shape := ⟨2, ![64, 8192]⟩
abbrev S1x1x8192 : Shape := ⟨3, ![1, 1, 8192]⟩
abbrev S8192 : Shape := ⟨1, ![8192]⟩
abbrev S1x8192 : Shape := ⟨2, ![1, 8192]⟩
abbrev S64x65 : Shape := ⟨2, ![64, 65]⟩
abbrev S65x8192 : Shape := ⟨2, ![65, 8192]⟩

abbrev nBuf : Space → Nat
  | .hbm => 9
  | .vmem => 8
  | .smem => 0
  | _ => 0

abbrev bufTy : (tb : Table) → Fin (tcTables nBuf tb) → BufTy
  | .hbm, ⟨0, _⟩ => ⟨S32768x64, .f32⟩
  | .hbm, ⟨1, _⟩ => ⟨S64x64, .f32⟩
  | .hbm, ⟨2, _⟩ => ⟨S64, .f32⟩
  | .hbm, ⟨3, _⟩ => ⟨S64x32768, .f32⟩
  | .hbm, ⟨4, _⟩ => ⟨S64x1, .f32⟩
  | .hbm, ⟨5, _⟩ => ⟨S64x32768, .f32⟩
  | .hbm, ⟨6, _⟩ => ⟨S4x1x8192, .i32⟩
  | .hbm, ⟨7, _⟩ => ⟨S32768x64, .f32⟩
  | .hbm, ⟨8, _⟩ => ⟨S32768, .i32⟩
  | .local _ .vmem, ⟨0, _⟩ => ⟨S64x8192, .f32⟩
  | .local _ .vmem, ⟨1, _⟩ => ⟨S64x8192, .f32⟩
  | .local _ .vmem, ⟨2, _⟩ => ⟨S64x64, .f32⟩
  | .local _ .vmem, ⟨3, _⟩ => ⟨S64x1, .f32⟩
  | .local _ .vmem, ⟨4, _⟩ => ⟨S64x8192, .f32⟩
  | .local _ .vmem, ⟨5, _⟩ => ⟨S64x8192, .f32⟩
  | .local _ .vmem, ⟨6, _⟩ => ⟨S1x1x8192, .i32⟩
  | .local _ .vmem, ⟨7, _⟩ => ⟨S1x1x8192, .i32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x64 : Shape := ⟨2, ![32768, 64]⟩
abbrev S64x64 : Shape := ⟨2, ![64, 64]⟩
abbrev S64 : Shape := ⟨1, ![64]⟩
abbrev S32768x1x64 : Shape := ⟨3, ![32768, 1, 64]⟩
abbrev S1x64x64 : Shape := ⟨3, ![1, 64, 64]⟩
abbrev S32768x64x64 : Shape := ⟨3, ![32768, 64, 64]⟩
abbrev S_ : Shape := ⟨0, ![]⟩
abbrev S32768 : Shape := ⟨1, ![32768]⟩
abbrev S32768x1 : Shape := ⟨2, ![32768, 1]⟩
abbrev S1 : Shape := ⟨1, ![1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S64x64, .f32⟩
  | .hbm, ⟨2, _⟩ => ⟨S64, .f32⟩
  | .hbm, ⟨3, _⟩ => ⟨S32768x1x64, .f32⟩
  | .hbm, ⟨4, _⟩ => ⟨S1x64x64, .f32⟩
  | .hbm, ⟨5, _⟩ => ⟨S32768x64x64, .f32⟩
  | .hbm, ⟨6, _⟩ => ⟨S32768x64x64, .f32⟩
  | .hbm, ⟨7, _⟩ => ⟨S32768x64x64, .f32⟩
  | .hbm, ⟨8, _⟩ => ⟨S32768x64x64, .f32⟩
  | .hbm, ⟨9, _⟩ => ⟨S_, .f32⟩
  | .hbm, ⟨10, _⟩ => ⟨S32768x64, .f32⟩
  | .hbm, ⟨11, _⟩ => ⟨S32768x64, .f32⟩
  | .hbm, ⟨12, _⟩ => ⟨S32768x64, .i32⟩
  | .hbm, ⟨13, _⟩ => ⟨S_, .f32⟩
  | .hbm, ⟨14, _⟩ => ⟨S_, .i32⟩
  | .hbm, ⟨15, _⟩ => ⟨S32768, .f32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S1, .i32⟩
  | .hbm, ⟨26, _⟩ => ⟨S_, .i32⟩
  | .hbm, ⟨27, _⟩ => ⟨S32768x1, .i32⟩
  | .hbm, ⟨28, _⟩ => ⟨S32768x1, .i1⟩
  | .hbm, ⟨29, _⟩ => ⟨S1x1, .i32⟩
  | .hbm, ⟨30, _⟩ => ⟨S32768x1, .i32⟩
  | .hbm, ⟨31, _⟩ => ⟨S32768x1, .i1⟩
  | .hbm, ⟨32, _⟩ => ⟨S32768x1, .i1⟩
  | .hbm, ⟨33, _⟩ => ⟨S_, .i1⟩
  | .hbm, ⟨34, _⟩ => ⟨S32768, .i1⟩
  | .hbm, ⟨35, _⟩ => ⟨S32768x64, .f32⟩
  | .hbm, ⟨36, _⟩ => ⟨S32768x64, .i1⟩
  | .hbm, ⟨37, _⟩ => ⟨S_, .f32⟩
  | .hbm, ⟨38, _⟩ => ⟨S32768x64, .f32⟩
  | .hbm, ⟨39, _⟩ => ⟨S32768x64, .f32⟩
  | .hbm, ⟨40, _⟩ => ⟨S32768x64, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S1, .i32⟩
  | .hbm, ⟨50, _⟩ => ⟨S_, .i32⟩
  | .hbm, ⟨51, _⟩ => ⟨S32768x1, .i32⟩
  | .hbm, ⟨52, _⟩ => ⟨S32768x1, .i1⟩
  | .hbm, ⟨53, _⟩ => ⟨S1x1, .i32⟩
  | .hbm, ⟨54, _⟩ => ⟨S32768x1, .i32⟩
  | .hbm, ⟨55, _⟩ => ⟨S32768x1, .i1⟩
  | .hbm, ⟨56, _⟩ => ⟨S32768x1, .i1⟩
  | .hbm, ⟨57, _⟩ => ⟨S_, .i1⟩
  | .hbm, ⟨58, _⟩ => ⟨S32768, .i1⟩
  | .hbm, ⟨59, _⟩ => ⟨S32768, .f32⟩
  | .hbm, ⟨60, _⟩ => ⟨S_, .f32⟩
  | .hbm, ⟨61, _⟩ => ⟨S32768, .f32⟩
  | .hbm, ⟨62, _⟩ => ⟨S32768, .f32⟩
  | .hbm, ⟨63, _⟩ => ⟨S32768, .f32⟩
  | .hbm, ⟨64, _⟩ => ⟨S32768, .f32⟩
  | .hbm, ⟨65, _⟩ => ⟨S_, .f32⟩
  | .hbm, ⟨66, _⟩ => ⟨S32768, .f32⟩
  | .hbm, ⟨67, _⟩ => ⟨S32768, .f32⟩
  | .hbm, ⟨68, _⟩ => ⟨S_, .f32⟩
  | .hbm, ⟨69, _⟩ => ⟨S32768, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x64, .f32⟩
  | .hbm, ⟨76, _⟩ => ⟨S32768x64, .f32⟩
  | .hbm, ⟨77, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v9 : Ref sig .tc := ⟨.hbm, 39, rfl⟩
abbrev main_v10 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_0 : Ref sig .tc := ⟨.hbm, 65, rfl⟩
abbrev main_v14 : Ref sig .tc := ⟨.hbm, 66, rfl⟩
abbrev main_v15 : Ref sig .tc := ⟨.hbm, 67, rfl⟩
abbrev main_cst_1 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_2 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩

abbrev nD : Nat := 1
abbrev τ : Topo := Topo.v7x

variable {F : FTy → Type} [FloatOps F]
-- ==== Proof.RefRun.lean ====
/-
  The run of the REFERENCE program (`Cert.ReferenceIdeal`): no kernel, one straight line of host operations over HBM
  buffers. The line is cut into four stretches — the distances and their arg-min, the two takes at the index the
  arg-min names (the centers' rows, the radii), and the step towards the taken center — and each stretch's results are
  named as functions of the arrays it reads. Composed, they are the two results of the program (`run_main`).
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## What each stretch computes -/

/-- The distance of every row of `x` to every center of `c`. -/
def distances (x : FVec F S32768x64 .f32) (c : FVec F S64x64 .f32) : FVec F S32768x64 .f32 :=
  Host.sqrt (Host.reduceAdd
    (mulf
      (subf (broadcastInDim S32768x64x64 ![0, 1, 2] bcast_S32768x1x64_S32768x64x64_0_1_2 (broadcastInDim S32768x1x64 ![0, 2] bcast_S32768x64_S32768x1x64_0_2 x))
        (broadcastInDim S32768x64x64 ![0, 1, 2] bcast_S1x64x64_S32768x64x64_0_1_2 (broadcastInDim S1x64x64 ![1, 2] bcast_S64x64_S1x64x64_1_2 c)))
      (subf (broadcastInDim S32768x64x64 ![0, 1, 2] bcast_S32768x1x64_S32768x64x64_0_1_2 (broadcastInDim S32768x1x64 ![0, 2] bcast_S32768x64_S32768x1x64_0_2 x))
        (broadcastInDim S32768x64x64 ![0, 1, 2] bcast_S1x64x64_S32768x64x64_0_1_2 (broadcastInDim S1x64x64 ![1, 2] bcast_S64x64_S1x64x64_1_2 c))))
    (constant S_ .f32 0x00000000#32) reducesTo_S32768x64x64_S32768x64_d2 h_S_)

/-- The index of the least entry of each row of `d`. -/
def leastIndex (d : FVec F S32768x64 .f32) : IVec S32768 32 := fun j =>
  (Host.argReduce reducer_argmin_f32_i32 d (iotaInDim S32768x64 32 1) (constant S_ .f32 0x7F800000#32) (constantI S_ 32 0#32)
    reducesTo_S32768x64_S32768_d1 h_S_ j).2

/-- The index with a negative one counted from the end, as a column. -/
def wrapped (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 64#32))) i)

/-- Whether each entry of a column of indices lies in `[0, 63]`. -/
def inRange (w : IVec S32768x1 32) : IVec S32768 1 :=
  Host.reduce IntOp.andi
    (andi (cmpi .sge w (broadcastInDim S32768x1 ![] bcast_S_S32768x1 (constantI S_ 32 0#32)))
      (cmpi .sle w (broadcastInDim S32768x1 ![0, 1] bcast_S1x1_S32768x1_0_1 (broadcastInDim S1x1 ![1] bcast_S1_S1x1_1 (constantI S1 32 63#32)))))
    (constantI S_ 1 1#1) reducesTo_S32768x1_S32768_d1 h_S_

/-- The rows of `c` that the indices `i` name, the NaN word where an index is out of range. -/
def takeRows (c : FVec F S64x64 .f32) (i : IVec S32768 32) : FVec F S32768x64 .f32 :=
  select (broadcastInDim S32768x64 ![0] bcast_S32768_S32768x64_0 (inRange (wrapped i)))
    (Host.gather gather_S64x64_S32768x1_S32768x64_1_0_n_n_0_1_164 c (wrapped i))
    (broadcastInDim S32768x64 ![] bcast_S_S32768x64 (constant S_ .f32 0x7FC00000#32))

/-- The entries of `r` that the indices `i` name, the NaN word where an index is out of range. -/
def takeVec (r : FVec F S64 .f32) (i : IVec S32768 32) : FVec F S32768 .f32 :=
  select (inRange (wrapped i))
    (Host.gather gather_S64_S32768x1_S32768_n_0_n_n_0_1_1 r (wrapped i))
    (broadcastInDim S32768 ![] bcast_S_S32768 (constant S_ .f32 0x7FC00000#32))

/-- A tenth of the sigmoid of each taken radius, times the step `dlt`, added to `x`. -/
def stepped (x : FVec F S32768x64 .f32) (dlt : FVec F S32768x64 .f32) (r : FVec F S32768 .f32) : FVec F S32768x64 .f32 :=
  addf x (mulf
    (broadcastInDim S32768x64 ![0, 1] bcast_S32768x1_S32768x64_0_1
      (mulf (broadcastInDim S32768x1 ![] bcast_S_S32768x1 (constant S_ .f32 0x3DCCCCCD#32))
        (broadcastInDim S32768x1 ![0] bcast_S32768_S32768x1_0
          (Host.divf (broadcastInDim S32768 ![] bcast_S_S32768 (constant S_ .f32 0x3F800000#32))
            (addf (broadcastInDim S32768 ![] bcast_S_S32768 (constant S_ .f32 0x3F800000#32)) (Host.exp (Host.negf r)))))))
    dlt)

/-- The reference's second result: the index of each row's nearest center. -/
def refIdx (x : FVec F S32768x64 .f32) (c : FVec F S64x64 .f32) : IVec S32768 32 := leastIndex (distances x c)

/-- The reference's first result: each row moved towards its nearest center. -/
def refOut (x : FVec F S32768x64 .f32) (c : FVec F S64x64 .f32) (r : FVec F S64 .f32) : FVec F S32768x64 .f32 :=
  stepped x (subf (takeRows c (refIdx x c)) x) (takeVec r (refIdx x c))

/-! ## The line of operations -/

/-- The distances and their arg-min. -/
abbrev opsDist : List (HloOp τ sig (Elt F)) :=
  [ unary main_arg0 main_v0 (broadcastInDim S32768x1x64 ![0, 2] bcast_S32768x64_S32768x1x64_0_2),
    unary main_arg1 main_v1 (broadcastInDim S1x64x64 ![1, 2] bcast_S64x64_S1x64x64_1_2),
    unary main_v0 main_v2 (broadcastInDim S32768x64x64 ![0, 1, 2] bcast_S32768x1x64_S32768x64x64_0_1_2),
    unary main_v1 main_v3 (broadcastInDim S32768x64x64 ![0, 1, 2] bcast_S1x64x64_S32768x64x64_0_1_2),
    binary main_v2 main_v3 main_v4 subf,
    binary main_v4 main_v4 main_v5 mulf,
    nullary main_cst (constant S_ .f32 0x00000000#32),
    binary main_v5 main_cst main_v6 (fun x v => Host.reduceAdd x v reducesTo_S32768x64x64_S32768x64_d2 h_S_),
    unary main_v6 main_v7 Host.sqrt,
    nullary main_call0_v0 (iotaInDim S32768x64 32 1),
    nullary main_call0_cst (constant S_ .f32 0x7F800000#32),
    nullary main_call0_c (constantI S_ 32 0#32),
    quaternary main_v7 main_call0_v0 main_call0_cst main_call0_c main_call0_v1_0
      (fun x y u v j => (Host.argReduce reducer_argmin_f32_i32 x y u v reducesTo_S32768x64_S32768_d1 h_S_ j).1),
    quaternary main_v7 main_call0_v0 main_call0_cst main_call0_c main_v8
      (fun x y u v j => (Host.argReduce reducer_argmin_f32_i32 x y u v reducesTo_S32768x64_S32768_d1 h_S_ j).2) ]

/-- The take of the centers' rows. -/
abbrev opsRows : List (HloOp τ sig (Elt F)) :=
  [ nullary main_call1_c (constantI S_ 32 0#32),
    unary main_call1_c main_call1_v0 (broadcastInDim S32768 ![] bcast_S_S32768),
    binary main_v8 main_call1_v0 main_call1_v1 (cmpi .slt),
    nullary main_call1_c_0 (constantI S_ 32 64#32),
    unary main_call1_c_0 main_call1_v2 (broadcastInDim S32768 ![] bcast_S_S32768),
    binary main_v8 main_call1_v2 main_call1_v3 addi,
    ternary main_call1_v1 main_call1_v3 main_v8 main_call1_v4 select,
    unary main_call1_v4 main_call1_v5 (broadcastInDim S32768x1 ![0] bcast_S32768_S32768x1_0),
    nullary main_call1_c_1 (constantI S1 32 63#32),
    nullary main_call1_c_2 (constantI S_ 32 0#32),
    unary main_call1_c_2 main_call1_v6 (broadcastInDim S32768x1 ![] bcast_S_S32768x1),
    binary main_call1_v5 main_call1_v6 main_call1_v7 (cmpi .sge),
    unary main_call1_c_1 main_call1_v8 (broadcastInDim S1x1 ![1] bcast_S1_S1x1_1),
    unary main_call1_v8 main_call1_v9 (broadcastInDim S32768x1 ![0, 1] bcast_S1x1_S32768x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S32768x1_S32768_d1 h_S_),
    binary main_arg1 main_call1_v5 main_call1_v13 (fun x i => Host.gather gather_S64x64_S32768x1_S32768x64_1_0_n_n_0_1_164 x i),
    unary main_call1_v12 main_call1_v14 (broadcastInDim S32768x64 ![0] bcast_S32768_S32768x64_0),
    nullary main_call1_cst (constant S_ .f32 0x7FC00000#32),
    unary main_call1_cst main_call1_v15 (broadcastInDim S32768x64 ![] bcast_S_S32768x64),
    ternary main_call1_v14 main_call1_v13 main_call1_v15 main_v9 select,
    binary main_v9 main_arg0 main_v10 subf ]

/-- The take of the radii. -/
abbrev opsRadii : List (HloOp τ sig (Elt F)) :=
  [ nullary main_call2_c (constantI S_ 32 0#32),
    unary main_call2_c main_call2_v0 (broadcastInDim S32768 ![] bcast_S_S32768),
    binary main_v8 main_call2_v0 main_call2_v1 (cmpi .slt),
    nullary main_call2_c_0 (constantI S_ 32 64#32),
    unary main_call2_c_0 main_call2_v2 (broadcastInDim S32768 ![] bcast_S_S32768),
    binary main_v8 main_call2_v2 main_call2_v3 addi,
    ternary main_call2_v1 main_call2_v3 main_v8 main_call2_v4 select,
    unary main_call2_v4 main_call2_v5 (broadcastInDim S32768x1 ![0] bcast_S32768_S32768x1_0),
    nullary main_call2_c_1 (constantI S1 32 63#32),
    nullary main_call2_c_2 (constantI S_ 32 0#32),
    unary main_call2_c_2 main_call2_v6 (broadcastInDim S32768x1 ![] bcast_S_S32768x1),
    binary main_call2_v5 main_call2_v6 main_call2_v7 (cmpi .sge),
    unary main_call2_c_1 main_call2_v8 (broadcastInDim S1x1 ![1] bcast_S1_S1x1_1),
    unary main_call2_v8 main_call2_v9 (broadcastInDim S32768x1 ![0, 1] bcast_S1x1_S32768x1_0_1),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S32768x1_S32768_d1 h_S_),
    binary main_arg2 main_call2_v5 main_call2_v13 (fun x i => Host.gather gather_S64_S32768x1_S32768_n_0_n_n_0_1_1 x i),
    nullary main_call2_cst (constant S_ .f32 0x7FC00000#32),
    unary main_call2_cst main_call2_v14 (broadcastInDim S32768 ![] bcast_S_S32768),
    ternary main_call2_v12 main_call2_v13 main_call2_v14 main_v11 select ]

/-- The sigmoid, the scaling and the sum. -/
abbrev opsStep : List (HloOp τ sig (Elt F)) :=
  [ unary main_v11 main_v12 Host.negf,
    unary main_v12 main_v13 Host.exp,
    nullary main_cst_0 (constant S_ .f32 0x3F800000#32),
    unary main_cst_0 main_v14 (broadcastInDim S32768 ![] bcast_S_S32768),
    binary main_v14 main_v13 main_v15 addf,
    nullary main_cst_1 (constant S_ .f32 0x3F800000#32),
    unary main_cst_1 main_v16 (broadcastInDim S32768 ![] bcast_S_S32768),
    binary main_v16 main_v15 main_v17 Host.divf,
    unary main_v17 main_v18 (broadcastInDim S32768x1 ![0] bcast_S32768_S32768x1_0),
    nullary main_cst_2 (constant S_ .f32 0x3DCCCCCD#32),
    unary main_cst_2 main_v19 (broadcastInDim S32768x1 ![] bcast_S_S32768x1),
    binary main_v19 main_v18 main_v20 mulf,
    unary main_v20 main_v21 (broadcastInDim S32768x64 ![0, 1] bcast_S32768x1_S32768x64_0_1),
    binary main_v21 main_v10 main_v22 mulf,
    binary main_arg0 main_v22 main_v23 addf ]

/-- The whole line. -/
abbrev ops : List (HloOp τ sig (Elt F)) := opsDist ++ (opsRows ++ (opsRadii ++ opsStep))

/-- @main is that straight line. -/
theorem main_eq (c : Dev nD) : main (F := F) c = seq ops := by
  set_option maxRecDepth 200000 in
  rfl

/-- Running one line after another is running the two in turn. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The stretches at the buffers that are read later -/

/-- The first stretch leaves the arg-min of the distances. -/
theorem dist_idx (V : Valuation τ sig (Elt F)) :
    after opsDist V (main_v8 : DevRef τ sig) = refIdx (V (main_arg0 : DevRef τ sig)) (V (main_arg1 : DevRef τ sig)) := by
  after_results
  rfl

/-- The second leaves the taken rows of the centers less the rows. -/
theorem rows_delta (V : Valuation τ sig (Elt F)) :
    after opsRows V (main_v10 : DevRef τ sig)
      = subf (takeRows (V (main_arg1 : DevRef τ sig)) (V (main_v8 : DevRef τ sig))) (V (main_arg0 : DevRef τ sig)) := by
  after_results
  rfl

/-- The third leaves the taken radii. -/
theorem radii_taken (V : Valuation τ sig (Elt F)) :
    after opsRadii V (main_v11 : DevRef τ sig) = takeVec (V (main_arg2 : DevRef τ sig)) (V (main_v8 : DevRef τ sig)) := by
  after_results
  rfl

/-- The fourth leaves the moved rows. -/
theorem step_out (V : Valuation τ sig (Elt F)) :
    after opsStep V (main_v23 : DevRef τ sig)
      = stepped (V (main_arg0 : DevRef τ sig)) (V (main_v10 : DevRef τ sig)) (V (main_v11 : DevRef τ sig)) := by
  after_results
  rfl

/-- The first stretch writes no argument. -/
theorem dist_keeps (V : Valuation τ sig (Elt F)) :
    after opsDist V (main_arg0 : DevRef τ sig) = V (main_arg0 : DevRef τ sig)
      ∧ after opsDist V (main_arg1 : DevRef τ sig) = V (main_arg1 : DevRef τ sig)
      ∧ after opsDist V (main_arg2 : DevRef τ sig) = V (main_arg2 : DevRef τ sig) := by
  refine ⟨?_, ?_, ?_⟩ <;> after_results

/-- What the second stretch does not write, of the buffers read later. -/
theorem rows_keeps (V : Valuation τ sig (Elt F)) :
    after opsRows V (main_arg0 : DevRef τ sig) = V (main_arg0 : DevRef τ sig)
      ∧ after opsRows V (main_arg1 : DevRef τ sig) = V (main_arg1 : DevRef τ sig)
      ∧ after opsRows V (main_arg2 : DevRef τ sig) = V (main_arg2 : DevRef τ sig)
      ∧ after opsRows V (main_v8 : DevRef τ sig) = V (main_v8 : DevRef τ sig) := by
  refine ⟨?_, ?_, ?_, ?_⟩ <;> after_results

/-- What the third does not write. -/
theorem radii_keeps (V : Valuation τ sig (Elt F)) :
    after opsRadii V (main_arg0 : DevRef τ sig) = V (main_arg0 : DevRef τ sig)
      ∧ after opsRadii V (main_arg1 : DevRef τ sig) = V (main_arg1 : DevRef τ sig)
      ∧ after opsRadii V (main_arg2 : DevRef τ sig) = V (main_arg2 : DevRef τ sig)
      ∧ after opsRadii V (main_v8 : DevRef τ sig) = V (main_v8 : DevRef τ sig)
      ∧ after opsRadii V (main_v10 : DevRef τ sig) = V (main_v10 : DevRef τ sig) := by
  refine ⟨?_, ?_, ?_, ?_, ?_⟩ <;> after_results

/-- What the fourth does not write. -/
theorem step_keeps (V : Valuation τ sig (Elt F)) :
    after opsStep V (main_arg0 : DevRef τ sig) = V (main_arg0 : DevRef τ sig)
      ∧ after opsStep V (main_arg1 : DevRef τ sig) = V (main_arg1 : DevRef τ sig)
      ∧ after opsStep V (main_arg2 : DevRef τ sig) = V (main_arg2 : DevRef τ sig)
      ∧ after opsStep V (main_v8 : DevRef τ sig) = V (main_v8 : DevRef τ sig) := by
  refine ⟨?_, ?_, ?_, ?_⟩ <;> after_results

/-! ## The whole line at the results and at the arguments -/

/-- The whole line leaves `refOut` of the arguments in the first result. -/
theorem out_eq (V : Valuation τ sig (Elt F)) :
    after ops V (main_v23 : DevRef τ sig)
      = refOut (V (main_arg0 : DevRef τ sig)) (V (main_arg1 : DevRef τ sig)) (V (main_arg2 : DevRef τ sig)) := by
  rw [ops, after_two, after_two, after_two, step_out, radii_taken, (radii_keeps _).1, (radii_keeps _).2.2.2.2, rows_delta,
    (rows_keeps _).1, (rows_keeps _).2.2.1, (rows_keeps _).2.2.2, dist_idx, (dist_keeps _).1, (dist_keeps _).2.1, (dist_keeps _).2.2]
  rfl

/-- It leaves `refIdx` of the arguments in the second. -/
theorem idx_eq (V : Valuation τ sig (Elt F)) :
    after ops V (main_v8 : DevRef τ sig) = refIdx (V (main_arg0 : DevRef τ sig)) (V (main_arg1 : DevRef τ sig)) := by
  rw [ops, after_two, after_two, after_two, (step_keeps _).2.2.2, (radii_keeps _).2.2.2.1, (rows_keeps _).2.2.2, dist_idx]

/-- It leaves the arguments as they were. -/
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig) := by
  refine ⟨?_, ?_, ?_⟩
  · rw [ops, after_two, after_two, after_two, (step_keeps _).1, (radii_keeps _).1, (rows_keeps _).1, (dist_keeps _).1]
  · rw [ops, after_two, after_two, after_two, (step_keeps _).2.1, (radii_keeps _).2.1, (rows_keeps _).2.1, (dist_keeps _).2.1]
  · rw [ops, after_two, after_two, after_two, (step_keeps _).2.2.1, (radii_keeps _).2.2.1, (rows_keeps _).2.2.1, (dist_keeps _).2.2]

/-! ## The run -/

/-- No buffer is scoped on this signature. -/
theorem scopedRefs_eq : (Finset.univ.filter fun b : Ref sig .tc => b.isScoped) = ∅ := by decide
/-- No semaphore is scoped either. -/
theorem scopedSems_eq : (Finset.univ.filter fun sm : SemLoc sig => sm.isScoped .tc) = ∅ := by decide

/-- Every operation of the first stretch touches TensorCore references only. -/
theorem dist_sub : (opsDist : List (HloOp τ sig (Elt F))).Forall fun op => op.bufs ⊆ tcRefs τ sig :=
  ⟨unary_bufs_sub .., unary_bufs_sub .., unary_bufs_sub .., unary_bufs_sub .., binary_bufs_sub ..,
    binary_bufs_sub .., nullary_bufs_sub .., binary_bufs_sub .., unary_bufs_sub .., nullary_bufs_sub ..,
    nullary_bufs_sub .., nullary_bufs_sub .., quaternary_bufs_sub .., quaternary_bufs_sub ..⟩
/-- The second stretch, likewise. -/
theorem rows_sub : (opsRows : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub .., binary_bufs_sub ..⟩
/-- The third. -/
theorem radii_sub : (opsRadii : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., nullary_bufs_sub ..,
    unary_bufs_sub .., ternary_bufs_sub ..⟩
/-- The fourth. -/
theorem step_sub : (opsStep : List (HloOp τ sig (Elt F))).Forall fun op => op.bufs ⊆ tcRefs τ sig :=
  ⟨unary_bufs_sub .., unary_bufs_sub .., nullary_bufs_sub .., unary_bufs_sub .., binary_bufs_sub ..,
    nullary_bufs_sub .., unary_bufs_sub .., binary_bufs_sub .., unary_bufs_sub .., nullary_bufs_sub ..,
    unary_bufs_sub .., binary_bufs_sub .., unary_bufs_sub .., binary_bufs_sub .., binary_bufs_sub ..⟩

/-- So does the whole line. -/
theorem ops_sub : (ops : List (HloOp τ sig (Elt F))).Forall fun op => op.bufs ⊆ tcRefs τ sig :=
  List.forall_append.mpr ⟨dist_sub, List.forall_append.mpr ⟨rows_sub, List.forall_append.mpr ⟨radii_sub, step_sub⟩⟩⟩

/-- Every operation determines its results. -/
theorem ops_fresh : ∀ op ∈ (ops : List (HloOp τ sig (Elt F))), op.fresh = ∅ :=
  List.forall_iff_forall_mem.mp (forall_fresh_of_map rfl)

/-- From any memory with zero counters every weakly fair execution of the reference terminates; the two results hold
    `refOut` and `refIdx` of the arguments, the arguments are unchanged, and every semaphore counter is zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v23)
          = refOut (m ((c.tc : Thread nD τ).loc main_arg0)) (m ((c.tc : Thread nD τ).loc main_arg1)) (m ((c.tc : Thread nD τ).loc main_arg2))
        ∧ r.2.mem ((c.tc : Thread nD τ).loc main_v8)
          = refIdx (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v23).trans (out_eq _), (h c main_v8).trans (idx_eq _),
      (h c main_arg0).trans (args_eq _).1, (h c main_arg1).trans (args_eq _).2.1, (h c main_arg2).trans (args_eq _).2.2⟩)
    (run_seq scopedRefs_eq scopedSems_eq defs main (fun _ => ops) main_eq (fun _ => ops_sub) m ρ fun _ => ops_fresh)

end Cert.Proof.RefRun

end
-- ==== Proof.Nearest.lean ====
/-
  The first index at which 64 extended reals are least (`nearest`), and the two ways the programs find it: as the least
  index at which the values equal their minimum (a signed minimum of 32-bit words), and as the fold of a reducer on
  (value, index) pairs that keeps the smaller value, and the smaller index among equal values.
-/
module

public import Idealize.ShloMosaic.Lib.Pointwise
public import Idealize.ShloMosaic.Lib.PlanTiles.Rows

@[expose] public section

noncomputable section

namespace Cert.Proof.Nearest

open Idealize.ShloMosaic

/-- `i` is the first index at which `f` is least. -/
def IsNearest (f : Fin 64 → EReal) (i : Fin 64) : Prop := (∀ e, f i ≤ f e) ∧ ∀ e, e < i → f i < f e

/-- There is a first index at which `f` is least. -/
theorem exists_isNearest (f : Fin 64 → EReal) : ∃ i, IsNearest f i := by
  classical
  obtain ⟨a, -, ha⟩ := Finset.exists_min_image Finset.univ f ⟨0, Finset.mem_univ _⟩
  have hs : (Finset.univ.filter fun i => ∀ e, f i ≤ f e).Nonempty :=
    ⟨a, Finset.mem_filter.mpr ⟨Finset.mem_univ _, fun e => ha e (Finset.mem_univ _)⟩⟩
  have hmem := (Finset.mem_filter.mp (Finset.min'_mem _ hs)).2
  refine ⟨Finset.min' _ hs, hmem, fun e he => lt_of_le_of_ne (hmem e) fun heq => ?_⟩
  have : e ∈ Finset.univ.filter fun i => ∀ e, f i ≤ f e :=
    Finset.mem_filter.mpr ⟨Finset.mem_univ _, fun e' => heq ▸ hmem e'⟩
  exact absurd (Finset.min'_le _ e this) (not_le.mpr he)

/-- The first index at which `f` is least. -/
def nearest (f : Fin 64 → EReal) : Fin 64 := (exists_isNearest f).choose

/-- `nearest f` is it. -/
theorem nearest_spec (f : Fin 64 → EReal) : IsNearest f (nearest f) := (exists_isNearest f).choose_spec

/-- There is one such index only. -/
theorem nearest_eq {f : Fin 64 → EReal} {i : Fin 64} (h : IsNearest f i) : nearest f = i := by
  have h' := nearest_spec f
  rcases lt_trichotomy (nearest f) i with hlt | heq | hgt
  · exact absurd (h'.1 i) (not_le.mpr (h.2 _ hlt))
  · exact heq
  · exact absurd (h.1 (nearest f)) (not_le.mpr (h'.2 _ hgt))

/-- Two families in the same strict order have the same nearest index. -/
theorem nearest_congr {f g : Fin 64 → EReal} (h : ∀ a b, f a < f b ↔ g a < g b) : nearest f = nearest g :=
  nearest_eq ⟨fun e => not_lt.mp fun hlt => absurd ((nearest_spec g).1 e) (not_le.mpr ((h _ _).mp hlt)),
    fun e he => (h _ _).mpr ((nearest_spec g).2 e he)⟩

/-! ## As a signed minimum of words -/

/-- The minimum of the 64 values, from `⊤`, is the value at the nearest index. -/
theorem fold_min_eq (f : Fin 64 → EReal) : Finset.univ.fold min ⊤ f = f (nearest f) :=
  le_antisymm ((Finset.fold_min_le _).mpr (.inr ⟨_, Finset.mem_univ _, le_rfl⟩))
    ((Finset.le_fold_min _).mpr ⟨le_top, fun e _ => (nearest_spec f).1 e⟩)

/-- A signed minimum of words that hold small naturals holds the naturals' minimum. -/
theorem fold_minsi_words (g : Fin 64 → ℕ) (hg : ∀ e, g e ≤ 64) (s : Finset (Fin 64)) :
    s.fold IntOp.minsi 2147483647#32 (fun e => BitVec.ofNat 32 (g e)) = BitVec.ofNat 32 (s.fold min 2147483647 g)
      ∧ s.fold min 2147483647 g < 2 ^ 31 := by
  classical
  induction s using Finset.induction_on with
  | empty => exact ⟨rfl, by rw [Finset.fold_empty]; norm_num⟩
  | insert a s ha ih =>
    have hga := hg a
    rw [Finset.fold_insert ha, Finset.fold_insert ha, ih.1]
    refine ⟨?_, lt_of_le_of_lt (min_le_right _ _) ih.2⟩
    rw [PlanTiles.minsi_word (by omega) ih.2, min_comm]

/-- The least index at which the values equal their minimum, as a word. -/
theorem fold_minsi_eq (f : Fin 64 → EReal) :
    Finset.univ.fold IntOp.minsi 2147483647#32
        (fun e => if f e = Finset.univ.fold min ⊤ f then BitVec.ofNat 32 (e : ℕ) else 64#32)
      = BitVec.ofNat 32 (nearest f : ℕ) := by
  rw [fold_min_eq]
  have hw : (fun e : Fin 64 => if f e = f (nearest f) then BitVec.ofNat 32 (e : ℕ) else 64#32)
      = fun e => BitVec.ofNat 32 (if f e = f (nearest f) then (e : ℕ) else 64) := by
    funext e; split <;> rfl
  have hlt := (nearest f).isLt
  rw [hw, (fold_minsi_words _ (fun e => by have := e.isLt; split <;> omega) _).1]
  congr 1
  refine le_antisymm ((Finset.fold_min_le _).mpr (.inr ⟨nearest f, Finset.mem_univ _, by rw [if_pos rfl]⟩))
    ((Finset.le_fold_min _).mpr ⟨by omega, fun e _ => ?_⟩)
  split
  · rename_i heq
    exact not_lt.mp fun h => absurd heq.symm ((nearest_spec f).2 e h).ne
  · omega

/-! ## As a fold over (value, index) pairs -/

/-- A fold ends at `p`, a member of the list, if every pair met before gives way to `p` and `p` stays. -/
theorem foldl_eq_of_absorbs {α : Type} (r : α → α → α) (P : α → Prop) (p : α) (hP : ∀ a b, P a → P b → P (r a b))
    (hto : ∀ a, P a → r a p = p) (hstay : ∀ a, P a → r p a = p) :
    ∀ (L : List α) (a : α), P a → (∀ b ∈ L, P b) → (p ∈ L ∨ a = p) → L.foldl r a = p
  | [], a, _, _, h => h.elim (fun h => nomatch h) id
  | b :: L, a, ha, hL, h => by
    have hb : P b := hL b List.mem_cons_self
    refine foldl_eq_of_absorbs r P p hP hto hstay L (r a b) (hP a b ha hb) (fun c hc => hL c (List.mem_cons_of_mem _ hc)) ?_
    rcases h with h | rfl
    · rcases List.mem_cons.mp h with rfl | h
      · exact .inr (hto a ha)
      · exact .inl h
    · exact .inr (hstay b hb)

/-- The reducer: the pair of the smaller value, and of the smaller index among equal values. -/
def least (a b : EReal × BitVec 32) : EReal × BitVec 32 :=
  if a.1 < b.1 ∨ (a.1 = b.1 ∧ a.2.slt b.2) then a else b

/-- Words that hold indices compare as the indices do. -/
theorem slt_words (a b : Fin 64) : ((BitVec.ofNat 32 (a : ℕ)).slt (BitVec.ofNat 32 (b : ℕ)) = true) ↔ a < b := by
  revert a b; decide +kernel

/-- Folding the reducer, from `(⊤, 0)`, over a list of the 64 pairs that holds the nearest index's pair gives that pair. -/
theorem foldl_least (f : Fin 64 → EReal) (hf : f (nearest f) < ⊤) (L : List (EReal × BitVec 32))
    (hL : ∀ p ∈ L, ∃ e : Fin 64, p = (f e, BitVec.ofNat 32 (e : ℕ)))
    (hmem : (f (nearest f), BitVec.ofNat 32 (nearest f : ℕ)) ∈ L) :
    L.foldl least (⊤, 0#32) = (f (nearest f), BitVec.ofNat 32 (nearest f : ℕ)) := by
  refine foldl_eq_of_absorbs least (fun p => p = (⊤, 0#32) ∨ ∃ e : Fin 64, p = (f e, BitVec.ofNat 32 (e : ℕ))) _ ?_ ?_ ?_
    L _ (.inl rfl) (fun p hp => .inr (hL p hp)) (.inl hmem)
  · intro a b ha hb
    unfold least
    split
    · exact ha
    · exact hb
  · rintro a (rfl | ⟨e, rfl⟩)
    · exact if_neg (not_or.mpr ⟨not_top_lt, fun h => hf.ne h.1.symm⟩)
    · by_cases h : e < nearest f
      · refine if_neg (not_or.mpr ⟨not_lt.mpr ((nearest_spec f).1 e), fun h' => ?_⟩)
        exact ((nearest_spec f).2 e h).ne h'.1.symm
      · refine if_neg (not_or.mpr ⟨not_lt.mpr ((nearest_spec f).1 e), fun h' => h ((slt_words _ _).mp h'.2)⟩)
  · rintro a (rfl | ⟨e, rfl⟩)
    · exact if_pos (.inl hf)
    · by_cases h : f (nearest f) < f e
      · exact if_pos (.inl h)
      · have heq : f (nearest f) = f e := le_antisymm ((nearest_spec f).1 e) (not_lt.mp h)
        rcases lt_trichotomy (nearest f) e with hlt | he | hgt
        · exact if_pos (.inr ⟨heq, (slt_words _ _).mpr hlt⟩)
        · rw [← he]; unfold least; split <;> rfl
        · exact absurd ((nearest_spec f).2 e hgt) h

end Cert.Proof.Nearest

end
-- ==== Proof.Attract.lean ====
/-
  The mathematics of the two programs at one row, over the extended reals: the kernel's score of a center,
  `‖c‖² − 2 c·x`, and the reference's distance, `√(Σ (x − c)²)`, put the centers in the same order when the coordinates
  are real; the weight, a tenth of a sigmoid, is a real number whatever the radius is; and the kernel's
  `x + (w c − w x)` is the reference's `x + w (c − x)`.
-/
module

public import Idealize.ShloMosaic.Lib.Pointwise
public import proofs.«01_k».proof.Proof.Nearest

@[expose] public section

noncomputable section

namespace Cert.Proof.Attract

open Idealize.ShloMosaic
open Cert.Proof.Nearest

/-- The kernel's score of center `e`: its squared norm less twice its product with the row. -/
def score (X : Fin 64 → EReal) (C : Fin 64 → Fin 64 → EReal) (e : Fin 64) : EReal :=
  ∑ k, C e k * C e k - Ideal.ofBits .f32 0x40000000#32 * ∑ k, C e k * X k

/-- The reference's distance of the row to center `e`. -/
def dist (X : Fin 64 → EReal) (C : Fin 64 → Fin 64 → EReal) (e : Fin 64) : EReal :=
  Ideal.sqrt (∑ k, (X k - C e k) * (X k - C e k))

/-- The weight of a center of radius `r`: a tenth (the f32 nearest to it) of the sigmoid of `r`. -/
def weight (r : EReal) : EReal := Ideal.ofBits .f32 0x3DCCCCCD#32 * Ideal.logistic r

/-- The row moved towards its nearest center, at column `j`. -/
def moved (X : Fin 64 → EReal) (C : Fin 64 → Fin 64 → EReal) (R : Fin 64 → EReal) (i j : Fin 64) : EReal :=
  X j + weight (R i) * (C i j - X j)

/-! ## Constants -/

/-- The kernel's constant is the number two. -/
theorem two_eq : Ideal.ofBits .f32 0x40000000#32 = ((2 : ℝ) : EReal) := by
  simp [Ideal.ofBits, Ideal.ieee]
  rw [← EReal.coe_mul]
  norm_num

/-- The word of the positive infinity denotes `⊤`. -/
theorem top_eq : Ideal.ofBits .f32 0x7F800000#32 = ⊤ := by
  simp [Ideal.ofBits, Ideal.ieee]

/-- The f32 nearest to a tenth denotes a real number. -/
theorem tenth_real : ∃ w : ℝ, Ideal.ofBits .f32 0x3DCCCCCD#32 = (w : EReal) := by
  simp only [Ideal.ofBits, Ideal.ieee]
  rw [if_neg (by decide), if_neg (by decide)]
  exact ⟨_, rfl⟩

/-! ## Sums of reals -/

/-- A sum of reals, taken among the extended reals, is the real sum. -/
theorem coe_sum (f : Fin 64 → ℝ) : (∑ k, (f k : EReal)) = ((∑ k, f k : ℝ) : EReal) :=
  (map_sum (⟨⟨fun r : ℝ => (r : EReal), rfl⟩, EReal.coe_add⟩ : ℝ →+ EReal) f Finset.univ).symm

/-- The score of real coordinates is the real score. -/
theorem score_coe (X : Fin 64 → ℝ) (C : Fin 64 → Fin 64 → ℝ) (e : Fin 64) :
    score (fun k => (X k : EReal)) (fun e k => (C e k : EReal)) e
      = ((∑ k, C e k * C e k - 2 * ∑ k, C e k * X k : ℝ) : EReal) := by
  unfold score
  rw [two_eq]
  simp only [← EReal.coe_mul, coe_sum, ← EReal.coe_sub]

/-- The distance of real coordinates is the real distance. -/
theorem dist_coe (X : Fin 64 → ℝ) (C : Fin 64 → Fin 64 → ℝ) (e : Fin 64) :
    dist (fun k => (X k : EReal)) (fun e k => (C e k : EReal)) e
      = ((Real.sqrt (∑ k, (X k - C e k) * (X k - C e k)) : ℝ) : EReal) := by
  unfold dist
  simp only [← EReal.coe_sub, ← EReal.coe_mul, coe_sum]
  exact if_neg (not_lt.mpr (Finset.sum_nonneg fun k _ => mul_self_nonneg _))

/-- The squared distance is the score and the row's squared norm. -/
theorem sq_dist (X : Fin 64 → ℝ) (C : Fin 64 → Fin 64 → ℝ) (e : Fin 64) :
    ∑ k, (X k - C e k) * (X k - C e k) = (∑ k, C e k * C e k - 2 * ∑ k, C e k * X k) + ∑ k, X k * X k := by
  rw [Finset.mul_sum, ← Finset.sum_sub_distrib, ← Finset.sum_add_distrib]
  exact Finset.sum_congr rfl fun k _ => by ring

/-- Scores and distances put the centers in the same strict order. -/
theorem score_lt_iff (X : Fin 64 → ℝ) (C : Fin 64 → Fin 64 → ℝ) (a b : Fin 64) :
    score (fun k => (X k : EReal)) (fun e k => (C e k : EReal)) a < score (fun k => (X k : EReal)) (fun e k => (C e k : EReal)) b
      ↔ dist (fun k => (X k : EReal)) (fun e k => (C e k : EReal)) a < dist (fun k => (X k : EReal)) (fun e k => (C e k : EReal)) b := by
  rw [score_coe, score_coe, dist_coe, dist_coe, EReal.coe_lt_coe_iff, EReal.coe_lt_coe_iff,
    Real.sqrt_lt_sqrt_iff (Finset.sum_nonneg fun k _ => mul_self_nonneg _), sq_dist, sq_dist, add_lt_add_iff_right]

/-- So the first center of least score is the first center of least distance. -/
theorem nearest_score (X : Fin 64 → EReal) (C : Fin 64 → Fin 64 → EReal) (hX : ∀ k, ∃ r : ℝ, X k = r)
    (hC : ∀ e k, ∃ r : ℝ, C e k = r) : nearest (score X C) = nearest (dist X C) := by
  choose x hx using hX
  choose c hc using hC
  obtain rfl : X = fun k => (x k : EReal) := funext hx
  obtain rfl : C = fun e k => (c e k : EReal) := funext fun e => funext (hc e)
  exact nearest_congr (score_lt_iff x c)

/-- A distance between real points is not infinite. -/
theorem dist_lt_top (X : Fin 64 → EReal) (C : Fin 64 → Fin 64 → EReal) (hX : ∀ k, ∃ r : ℝ, X k = r)
    (hC : ∀ e k, ∃ r : ℝ, C e k = r) (e : Fin 64) : dist X C e < ⊤ := by
  choose x hx using hX
  choose c hc using hC
  obtain rfl : X = fun k => (x k : EReal) := funext hx
  obtain rfl : C = fun e k => (c e k : EReal) := funext fun e => funext (hc e)
  rw [dist_coe]
  exact EReal.coe_lt_top _

/-! ## The weight and the step -/

/-- The sigmoid of every extended real is a real number. -/
theorem logistic_real (r : EReal) : ∃ w : ℝ, Ideal.logistic r = (w : EReal) := by
  have h : ∀ y : EReal, 0 ≤ y → ∃ w : ℝ, Ideal.div 1 (1 + y) = (w : EReal) := by
    intro y hy
    induction y with
    | bot => exact absurd hy (by simp)
    | top => exact ⟨0, by rw [EReal.add_top_of_ne_bot (by decide), Ideal.div, if_neg (by decide), EReal.inv_top, mul_zero]; rfl⟩
    | coe y =>
      have hy' : (0 : ℝ) ≤ y := by exact_mod_cast hy
      refine ⟨(1 + y)⁻¹, ?_⟩
      have hne : (1 + (y : EReal)) ≠ 0 := by
        rw [← EReal.coe_one, ← EReal.coe_add, ← EReal.coe_zero]
        exact fun h => by have := EReal.coe_eq_coe_iff.mp h; linarith
      rw [Ideal.div, if_neg hne, one_mul, ← EReal.coe_one, ← EReal.coe_add, EReal.coe_inv]
  refine h _ ?_
  induction (-r : EReal) with
  | bot => exact le_rfl
  | top => exact le_top
  | coe y => exact EReal.coe_nonneg.mpr (Real.exp_pos y).le

/-- Every weight is a real number, whatever the radius. -/
theorem weight_real (r : EReal) : ∃ w : ℝ, weight r = (w : EReal) := by
  obtain ⟨a, ha⟩ := tenth_real
  obtain ⟨b, hb⟩ := logistic_real r
  exact ⟨a * b, by rw [weight, ha, hb, EReal.coe_mul]⟩

/-- The kernel's form of the step is the reference's. -/
theorem step_eq (x c w : EReal) (hx : ∃ r : ℝ, x = r) (hc : ∃ r : ℝ, c = r) (hw : ∃ r : ℝ, w = r) :
    x + (w * c - w * x) = x + w * (c - x) := by
  obtain ⟨x, rfl⟩ := hx
  obtain ⟨c, rfl⟩ := hc
  obtain ⟨w, rfl⟩ := hw
  simp only [← EReal.coe_mul, ← EReal.coe_sub, ← EReal.coe_add]
  congr 1
  ring

/-- A number that is not infinite is real. -/
theorem real_of_abs_lt {x : EReal} (h : max x (-x) < ⊤) : ∃ r : ℝ, x = r := by
  induction x with
  | bot => simp at h
  | top => simp at h
  | coe r => exact ⟨r, rfl⟩

end Cert.Proof.Attract

end
-- ==== Proof.Block.lean ====
/-
  What ONE BLOCK of the kernel computes, on the extended reals: of a block of 8192 rows (held as columns), the centers and
  the column of radii, the number of the center of least score for each row, and each row moved towards that center.
-/
module

public import proofs.«01_k».proof.Proof.Gen.KernelIdeal.Frame
public import proofs.«01_k».proof.Proof.Attract
public import Idealize.ShloMosaic.Lib.Pointwise

@[expose] public section

set_option maxRecDepth 16384

noncomputable section

namespace Cert.Proof.Block

open Cert.KernelIdeal Cert.KernelIdeal.Gen Cert.Proof.Nearest Cert.Proof.Attract
open Idealize.ShloMosaic

variable (x : FVec Ideal S64x8192 .f32) (c : FVec Ideal S64x64 .f32) (v : FVec Ideal S64x1 .f32) (l : Fin 8192)

/-- The number of the center of least score to the row in column `l`. -/
abbrev pick : Fin 64 := nearest (score (fun k => x (ix2 k l)) (fun e k => c (ix2 e k)))

/-- The index word the block computes for the row in column `l` holds that number. -/
theorem pay2_apply : k0_pay2 (F := Ideal) x c (ix2 0 l) = BitVec.ofNat 32 (pick x c l : ℕ) := by
  pointwise [k0_pay2, k0_pay1]
  rw [top_eq]
  exact fold_minsi_eq (score (fun k => x (ix2 k l)) (fun e k => c (ix2 e k)))

/-- It is that word that is stored. -/
theorem pay4_apply : k0_pay4 (F := Ideal) x c (ix3 0 0 l) = BitVec.ofNat 32 (pick x c l : ℕ) := by
  pointwise [k0_pay4]
  exact pay2_apply x c l

/-- The entry of a one-hot column at `e`, the one entry being at `i`. -/
theorem onehot (e i : Fin 64) :
    (FloatOps.sitofp .f32 (BitVec.setWidth 32 (IntOp.cmpi .eq (BitVec.ofNat 32 (e : ℕ)) (BitVec.ofNat 32 (i : ℕ)))) : Ideal .f32)
      = if e = i then (1 : EReal) else 0 := by
  have h : (BitVec.setWidth 32 (IntOp.cmpi .eq (BitVec.ofNat 32 (e : ℕ)) (BitVec.ofNat 32 (i : ℕ)))).toInt = if e = i then 1 else 0 := by
    revert e i; decide +kernel
  show (((BitVec.setWidth 32 (IntOp.cmpi .eq (BitVec.ofNat 32 (e : ℕ)) (BitVec.ofNat 32 (i : ℕ)))).toInt : ℝ) : EReal) = _
  rw [h]
  split <;> simp

/-- A sum against a one-hot column is the entry the column selects. -/
theorem sum_onehot (f : Fin 64 → EReal) (i : Fin 64) : (∑ e, f e * if e = i then (1 : EReal) else 0) = f i := by
  rw [Finset.sum_eq_single i (fun e _ he => by rw [if_neg he, mul_zero]) (fun h => absurd (Finset.mem_univ _) h), if_pos rfl, mul_one]

/-- The row in column `l` moved, as the kernel writes the step: the weighted center less the weighted row. -/
theorem pay3_apply (j : Fin 64) : k0_pay3 (F := Ideal) x c v (ix2 j l)
    = x (ix2 j l) + (weight (v (ix2 (pick x c l) 0)) * c (ix2 (pick x c l) j) - weight (v (ix2 (pick x c l) 0)) * x (ix2 j l)) := by
  pointwise [k0_pay3, k0_pay1]
  rw [pay2_apply]
  simp only [onehot, sum_onehot]
  rfl

end Cert.Proof.Block

end
-- ==== Proof.KernelArray.lean ====
/-
  What the kernel's two output ARRAYS hold after its four grid points: point `t` fills columns `8192·t … 8192·t + 8191`
  of the transposed result and row `t` of the indices, and what it fills in is one function of the arrays the region
  finds (`outT`, `idxT`).
-/
module

public import proofs.«01_k».proof.Proof.Block
public import Idealize.ShloMosaic.Lib.Pipeline.ValueKit

@[expose] public section

set_option maxRecDepth 16384

noncomputable section

namespace Cert.Proof.KernelArray

open Cert.KernelIdeal Cert.KernelIdeal.Gen Cert.Proof.Nearest Cert.Proof.Attract
open Idealize.ShloMosaic Idealize.ShloMosaic.TcCoe Idealize.SL.Sem
open Idealize.ShloMosaic.Pipeline (Dat)

/-! ## The arrays' contents -/

/-- The number of the center of least score to row `r`, the rows being the columns of `x`. -/
def pickT (x : FVec Ideal S64x32768 .f32) (c : FVec Ideal S64x64 .f32) (r : Fin 32768) : Fin 64 :=
  nearest (score (fun k => x (ix2 k r)) (fun e k => c (ix2 e k)))

/-- Every row moved towards that center, the rows being the columns. -/
def outT (x : FVec Ideal S64x32768 .f32) (c : FVec Ideal S64x64 .f32) (v : FVec Ideal S64x1 .f32) : FVec Ideal S64x32768 .f32 :=
  fun i => x i + (weight (v (ix2 (pickT x c (i 1)) 0)) * c (ix2 (pickT x c (i 1)) (i 0)) - weight (v (ix2 (pickT x c (i 1)) 0)) * x i)

/-- The words that hold those numbers, 8192 to a row. -/
def idxT (x : FVec Ideal S64x32768 .f32) (c : FVec Ideal S64x64 .f32) : IVec S4x1x8192 32 :=
  fun i => BitVec.ofNat 32 (pickT x c ⟨(i 0).val * 8192 + (i 2).val, by
    have h0 : (i 0).val < 4 := (i 0).isLt
    have h2 : (i 2).val < 8192 := (i 2).isLt
    omega⟩ : ℕ)

/-! ## The blocks -/

variable (m : (ℓ : Loc nD τ sig) → Buf (Elt Ideal) ℓ) (c : Dev nD)

/-- Which block each window is on at each point. -/
theorem idx : ∀ t : Fin cfg0.N, win0_0.index t = ![0, t.val] ∧ win0_1.index t = ![0, 0] ∧ win0_2.index t = ![0, 0]
    ∧ win0_3.index t = ![0, t.val] ∧ win0_4.index t = ![t.val, 0, 0] :=
  (by decide +kernel : ∀ t : Fin grid0.N, _)

/-- Column `8192·t + l` of the transposed array. -/
def col (t : Fin cfg0.N) (l : Fin 8192) : Fin 32768 := ⟨t.val * 8192 + l.val, by
  have h : t.val < 4 := t.isLt
  omega⟩

/-- The block of rows at point `t`: columns `8192·t …` of the transposed array. -/
theorem iblk0 (t : Fin cfg0.N) (k : Fin 64) (l : Fin 8192) :
    iblk m c 0 t (ix2 k l) = V m c main_call0_v0 (ix2 k (col t l)) := by
  blk_ext [iblk, col, idx t]

/-- The block of centers is the whole array at every point. -/
theorem iblk1 (t : Fin cfg0.N) (e k : Fin 64) : iblk m c 1 t (ix2 e k) = V m c main_arg1 (ix2 e k) := by
  blk_ext [iblk, idx t]

/-- So is the block of radii. -/
theorem iblk2 (t : Fin cfg0.N) (e : Fin 64) : iblk m c 2 t (ix2 e 0) = V m c main_call0_v1 (ix2 e 0) := by
  blk_ext [iblk, idx t]

/-- The center a block picks for its column `l` is the one the array picks for column `8192·t + l`. -/
theorem pick_eq (t : Fin cfg0.N) (l : Fin 8192) :
    Block.pick (iblk m c 0 t) (iblk m c 1 t) l = pickT (V m c main_call0_v0) (V m c main_arg1) (col t l) := by
  unfold Block.pick pickT
  simp only [iblk0, iblk1]

/-! ## The arrays after the run -/

/-- The first output array after the run: every row moved, the rows being the columns. -/
theorem arr3 : (dats m 0 c).arrAt 3 (cfgs 0).N = outT (V m c main_call0_v0) (V m c main_arg1) (V m c main_call0_v1) := by
  refine (dats m 0 c).arrAt_eq_of_covers 3 _ (by decide +kernel) fun t _ y => ?_
  blk_simp
  rw [after0_3]; frame_out
  obtain ⟨j, l, rfl⟩ : ∃ (j : Fin 64) (l : Fin 8192), y = ix2 j l := ⟨y 0, y 1, eq_ix2 y⟩
  have he : ((cfg0.win 3).blk t).view.emb (ix2 j l) = ix2 j (col t l) := by
    blk_ext [col, idx t]
  rw [Block.pay3_apply, pick_eq, iblk0, iblk1, iblk2]
  exact (congrArg (outT (V m c main_call0_v0) (V m c main_arg1) (V m c main_call0_v1)) he).symm

/-- The second output array after the run: the words of the picked numbers. -/
theorem arr4 : (dats m 0 c).arrAt 4 (cfgs 0).N = idxT (V m c main_call0_v0) (V m c main_arg1) := by
  refine (dats m 0 c).arrAt_eq_of_covers 4 _ (by decide +kernel) fun t _ y => ?_
  blk_simp
  rw [after0_4]; frame_out
  obtain ⟨l, rfl⟩ : ∃ l : Fin 8192, y = ix3 0 0 l := ⟨y 2, by blk_ext⟩
  have he : ((cfg0.win 4).blk t).view.emb (ix3 0 0 l) = ix3 ⟨t.val, t.isLt⟩ 0 l := by
    blk_ext [idx t]
  rw [Block.pay4_apply, pick_eq]
  exact (congrArg (idxT (V m c main_call0_v0) (V m c main_arg1)) he).symm

end Cert.Proof.KernelArray

end
-- ==== Proof.KernelRun.lean ====
/-
  The run of the KERNEL program on the extended reals. Before the launch the host transposes the rows and makes a column of
  the radii; after it, it transposes the moved rows back and lists the indices. Read at an index, the two results are the
  number of the center of least score to each row, and each row moved towards that center.
-/
module

public import proofs.«01_k».proof.Proof.KernelArray

@[expose] public section

set_option maxRecDepth 16384

noncomputable section

namespace Cert.Proof.KernelRun

open Cert.KernelIdeal Cert.KernelIdeal.Gen Cert.Proof.Nearest Cert.Proof.Attract Cert.Proof.KernelArray
open Idealize.ShloMosaic Idealize.ShloMosaic.TcCoe Idealize.ShloMosaic.StableHlo Idealize.SL.Sem

/-- The kernel's first result, of the three arguments. -/
def kerOut (x : FVec Ideal S32768x64 .f32) (c : FVec Ideal S64x64 .f32) (v : FVec Ideal S64 .f32) : FVec Ideal S32768x64 .f32 :=
  transpose S32768x64 [1, 0]
    (outT (transpose S64x32768 [1, 0] x transposes_S32768x64_S64x32768_1_0) c (broadcastInDim S64x1 ![0] bcast_S64_S64x1_0 v))
    transposes_S64x32768_S32768x64_1_0

/-- The kernel's second result. -/
def kerIdx (x : FVec Ideal S32768x64 .f32) (c : FVec Ideal S64x64 .f32) : IVec S32768 32 :=
  shapeCast S32768 (idxT (transpose S64x32768 [1, 0] x transposes_S32768x64_S64x32768_1_0) c) shapeCasts_S4x1x8192_S32768

/-! ## The results at an index -/

/-- The coordinates of row `r`, read in the transposed array. -/
theorem pickT_transpose (x : FVec Ideal S32768x64 .f32) (c : FVec Ideal S64x64 .f32) (r : Fin 32768) :
    pickT (transpose S64x32768 [1, 0] x transposes_S32768x64_S64x32768_1_0) c r
      = nearest (score (fun k => x (ix2 r k)) (fun e k => c (ix2 e k))) := by
  have h : ∀ k : Fin 64, transpose S64x32768 [1, 0] x transposes_S32768x64_S64x32768_1_0 (ix2 k r) = x (ix2 r k) := fun k => by
    pointwise []
  unfold pickT
  simp only [h]

/-- The kernel's first result at row `r`, column `j`, `i` being the center of least score. -/
theorem kerOut_apply (x : FVec Ideal S32768x64 .f32) (c : FVec Ideal S64x64 .f32) (v : FVec Ideal S64 .f32) (r : Fin 32768) (j i : Fin 64)
    (hi : nearest (score (fun k => x (ix2 r k)) (fun e k => c (ix2 e k))) = i) :
    kerOut x c v (ix2 r j) = x (ix2 r j) + (weight (v (ix1 i)) * c (ix2 i j) - weight (v (ix1 i)) * x (ix2 r j)) := by
  have hp : ∀ X : FVec Ideal S64x32768 .f32, ∀ w, transpose S32768x64 [1, 0] (outT X c w) transposes_S64x32768_S32768x64_1_0 (ix2 r j)
      = X (ix2 j r) + (weight (w (ix2 (pickT X c r) 0)) * c (ix2 (pickT X c r) j) - weight (w (ix2 (pickT X c r) 0)) * X (ix2 j r)) :=
    fun X w => by
      pointwise []
      rfl
  unfold kerOut
  rw [hp, pickT_transpose, hi]
  pointwise []

/-- The kernel's second result at row `r`: the number of the center of least score. -/
theorem kerIdx_apply (x : FVec Ideal S32768x64 .f32) (c : FVec Ideal S64x64 .f32) (r : Fin 32768) :
    kerIdx x c (ix1 r) = BitVec.ofNat 32 (nearest (score (fun k => x (ix2 r k)) (fun e k => c (ix2 e k))) : ℕ) := by
  unfold kerIdx
  have hr := r.isLt
  have hc : ∀ y : IVec S4x1x8192 32, shapeCast S32768 y shapeCasts_S4x1x8192_S32768 (ix1 r)
      = y (ix3 ⟨r.val / 8192, by omega⟩ 0 ⟨r.val % 8192, by omega⟩) := fun y => by
    pointwise []
  rw [hc, ← pickT_transpose]
  unfold idxT
  congr 3
  exact Fin.ext (by show r.val / 8192 * 8192 + r.val % 8192 = r.val; omega)

/-! ## The run -/

variable (m : (ℓ : Loc nD τ sig) → Buf (Elt Ideal) ℓ) (ρ : Dev nD → PrngReg)

/-- The transposed rows, as the launch finds them. -/
theorem entry_rows (c : Dev nD) : V m c main_call0_v0
    = transpose S64x32768 [1, 0] (m ((c.tc : Thread nD τ).loc main_arg0)) transposes_S32768x64_S64x32768_1_0 := by
  simp only [V, V0, hostOps0, List.flatten_cons, List.flatten_nil, List.append_nil]
  after_results
  rfl

/-- The column of radii, as the launch finds it. -/
theorem entry_radii (c : Dev nD) : V m c main_call0_v1
    = broadcastInDim S64x1 ![0] bcast_S64_S64x1_0 (m ((c.tc : Thread nD τ).loc main_arg2)) := by
  simp only [V, V0, hostOps0, List.flatten_cons, List.flatten_nil, List.append_nil]
  after_results
  rfl

/-- The first result, as the lines after the launch leave it. -/
theorem tail_out (c : Dev nD) : Pipeline.afterTail₀ cfgs (dats m) 0 (V0 m) [hostOps1] c main_v0_0
    = kerOut (m ((c.tc : Thread nD τ).loc main_arg0)) (m ((c.tc : Thread nD τ).loc main_arg1)) (m ((c.tc : Thread nD τ).loc main_arg2)) := by
  have h : Pipeline.afterTail₀ cfgs (dats m) 0 (V0 m) [hostOps1] c main_v0_0
      = transpose S32768x64 [1, 0] ((dats m 0 c).arrAt 3 (cfgs 0).N) transposes_S64x32768_S32768x64_1_0 := by
    unfold Pipeline.afterTail₀
    simp only [hostOps1, List.flatten_cons, List.flatten_nil, List.append_nil]
    after_results
    exact congrArg (transpose S32768x64 [1, 0] · transposes_S64x32768_S32768x64_1_0)
      (Pipeline.withArrays_arr spec0 launch0.win.arr_inj c (V0 m c) (fun w => (dats m 0 c).arrAt w (cfgs 0).N) 3)
  rw [h, arr3, entry_rows, entry_radii, V_main_arg1]
  rfl

/-- The second result, as the lines after the launch leave it. -/
theorem tail_idx (c : Dev nD) : Pipeline.afterTail₀ cfgs (dats m) 0 (V0 m) [hostOps1] c main_v0_1
    = kerIdx (m ((c.tc : Thread nD τ).loc main_arg0)) (m ((c.tc : Thread nD τ).loc main_arg1)) := by
  have h : Pipeline.afterTail₀ cfgs (dats m) 0 (V0 m) [hostOps1] c main_v0_1
      = shapeCast S32768 ((dats m 0 c).arrAt 4 (cfgs 0).N) shapeCasts_S4x1x8192_S32768 := by
    unfold Pipeline.afterTail₀
    simp only [hostOps1, List.flatten_cons, List.flatten_nil, List.append_nil]
    after_results
    exact congrArg (shapeCast S32768 · shapeCasts_S4x1x8192_S32768)
      (Pipeline.withArrays_arr spec0 launch0.win.arr_inj c (V0 m c) (fun w => (dats m 0 c).arrAt w (cfgs 0).N) 4)
  rw [h, arr4, entry_rows, V_main_arg1]
  rfl

/-- The whole run: every execution ends, with the two results at those functions of the arguments, which it leaves unchanged. -/
theorem run : θ_run defs (onTc (τ := τ) (main (F := Ideal))) ⟨m, fun _ => 0, ρ⟩ (fun r => ∀ c : Dev nD,
      r.2.mem ((c.tc : Thread nD τ).loc main_v0_0)
        = kerOut (m ((c.tc : Thread nD τ).loc main_arg0)) (m ((c.tc : Thread nD τ).loc main_arg1)) (m ((c.tc : Thread nD τ).loc main_arg2))
      ∧ r.2.mem ((c.tc : Thread nD τ).loc main_v0_1)
        = kerIdx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.2 c).2 main_v0_0 (Pipeline.mem_restRefs_of main_v0_0 (by decide) (by decide))).trans (tail_out m c),
      ((h.2 c).2 main_v0_1 (Pipeline.mem_restRefs_of main_v0_1 (by decide) (by decide))).trans (tail_idx m c), h.1 c⟩)
    (θ_run_and (unchanged m ρ) (run_main m ρ))

end Cert.Proof.KernelRun

end
-- ==== Proof.RefValue.lean ====
/-
  The REFERENCE's two results, read at an index on the extended reals: of finite coordinates, entry `r` of the second is
  the number of the center nearest to row `r`, and row `r` of the first is that row moved towards that center.
-/
module

public import proofs.«01_k».proof.Proof.RefRun
public import proofs.«01_k».proof.Proof.Attract
public import Idealize.ShloMosaic.Lib.Pointwise
public import Idealize.ShloMosaic.Lib.Pointwise.IndexBridge
public import Idealize.ShloMosaic.Lib.Routing.Ops
public import Idealize.ShloMosaic.Lib.Routing.OpsSet

@[expose] public section

set_option maxRecDepth 16384

noncomputable section

namespace Cert.Proof.RefValue

open Cert.ReferenceIdeal Cert.ReferenceIdeal.Gen Cert.Proof.RefRun Cert.Proof.Nearest Cert.Proof.Attract
open Idealize.ShloMosaic

/-- The coordinates of row `r`. -/
abbrev row (x : FVec Ideal S32768x64 .f32) (r : Fin 32768) (k : Fin 64) : EReal := x (ix2 r k)

/-- The coordinates of the centers. -/
abbrev centers (c : FVec Ideal S64x64 .f32) (e k : Fin 64) : EReal := c (ix2 e k)

/-- The entry of the distances at row `r` and center `e`. -/
theorem distances_apply (x : FVec Ideal S32768x64 .f32) (c : FVec Ideal S64x64 .f32) (r : Fin 32768) (e : Fin 64) :
    distances x c (ix2 r e) = dist (row x r) (centers c) e := by
  pointwise [distances]
  rfl

/-! ## The arg-min -/

/-- The reducer keeps the pair of the smaller value, and of the smaller index among equal values. -/
theorem reducer_eq : (reducer_argmin_f32_i32 : Ideal .f32 × BitVec 32 → Ideal .f32 × BitVec 32 → Ideal .f32 × BitVec 32) = least := by
  funext ⟨a, i⟩ ⟨b, j⟩
  simp only [reducer_argmin_f32_i32, least, Ideal.cmpf_def, Ideal.cmp, IntOp.cmpi, Scalar.select]
  by_cases h1 : a < b
  · simp [h1, h1.ne, IntOp.ori, IntOp.andi]
  · by_cases h2 : a = b
    · subst h2
      by_cases h3 : i.slt j = true
      · simp [h3, IntOp.ori, IntOp.andi]
      · simp [Bool.eq_false_iff.mpr h3, IntOp.ori, IntOp.andi]
    · simp [h1, h2, IntOp.ori, IntOp.andi]

/-- The entries of `d` at row `r` are those whose index drops to `r`. -/
theorem drop_eq_iff (i : S32768x64.Idx) (r : Fin 32768) :
    reducesTo_S32768x64_S32768_d1.drop i = ix1 r ↔ i 0 = r := by
  have hv : (reducesTo_S32768x64_S32768_d1.drop i 0 : Nat) = i 0 := Shape.ReducesTo.drop_apply_val _ i 0
  constructor
  · intro h
    rw [h] at hv
    exact Fin.ext hv.symm
  · intro h
    funext a
    match a with
    | ⟨0, _⟩ => exact Fin.ext (hv.trans (congrArg Fin.val h))

/-- The index an arg-min ends with is that of the fold of its reducer over the entries that drop to `j`: no extended real
    differs from itself. -/
theorem argReduce_snd {s t u : Shape} {axes : List (Fin s.rank)} {β : Type} {φ : FTy}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) :
    (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- `leastIndex`, as a function of the row. -/
theorem leastIndex_eq (d : FVec Ideal S32768x64 .f32) : leastIndex d = fun j =>
    (Host.argReduce reducer_argmin_f32_i32 d (iotaInDim S32768x64 32 1) (constant S_ .f32 0x7F800000#32) (constantI S_ 32 0#32)
      reducesTo_S32768x64_S32768_d1 h_S_ j).2 := rfl

/-- The same as the fold of the reducer over the entries of a row, from `(⊤, 0)`. -/
theorem leastIndex_fold (d : FVec Ideal S32768x64 .f32) : leastIndex d = fun j =>
    ((Host.argReduceFiber d (iotaInDim S32768x64 32 1) reducesTo_S32768x64_S32768_d1 j).foldl least (⊤, 0#32)).2 := by
  have h0 : ((constant (F := Ideal) S_ .f32 0x7F800000#32) (Shape.Idx.first h_S_), (constantI S_ 32 0#32) (Shape.Idx.first h_S_))
      = ((⊤ : EReal), 0#32) := Prod.ext top_eq rfl
  rw [leastIndex_eq]
  funext j
  rw [argReduce_snd, reducer_eq, h0]

/-- The arg-min of row `r` is the first index at which its entries are least, as soon as one of them is below `⊤`. -/
theorem leastIndex_apply (d : FVec Ideal S32768x64 .f32) (r : Fin 32768) (f : Fin 64 → EReal) (hd : ∀ e, d (ix2 r e) = f e)
    (hf : f (nearest f) < ⊤) : leastIndex d (ix1 r) = BitVec.ofNat 32 (nearest f : ℕ) := by
  have hi : ∀ e : Fin 64, iotaInDim S32768x64 32 1 (ix2 r e) = BitVec.ofNat 32 (e : ℕ) := fun e => by
    pointwise []
  rw [leastIndex_fold]
  beta_reduce
  rw [foldl_least f hf]
  · intro p hp
    rw [Host.argReduceFiber, List.mem_map] at hp
    obtain ⟨n, hn, rfl⟩ := hp
    rw [List.mem_filter] at hn
    have hr := (drop_eq_iff _ r).mp (of_decide_eq_true hn.2)
    generalize S32768x64.rowMajor.symm n = i at hr ⊢
    have he : i = ix2 r (i 1) := by
      rw [← hr]; exact eq_ix2 i
    rw [he]
    exact ⟨i 1, Prod.ext (hd _) (hi _)⟩
  · rw [Host.argReduceFiber, List.mem_map]
    refine ⟨S32768x64.rowMajor (ix2 r (nearest f)), ?_, ?_⟩
    · rw [List.mem_filter, Equiv.symm_apply_apply]
      exact ⟨List.mem_finRange _, decide_eq_true ((drop_eq_iff _ r).mpr rfl)⟩
    · rw [Equiv.symm_apply_apply]
      exact Prod.ext (hd _) (hi _)

/-- A selection by the true bit. -/
theorem select_one {α : Type} (a b : α) : Scalar.select 1#1 a b = a := rfl

/-! ## The takes at an index in range -/

/-- An index in range is not wrapped. -/
theorem wrapped_apply (i : IVec S32768 32) (r : Fin 32768) (e : Fin 64) (h : i (ix1 r) = BitVec.ofNat 32 (e : ℕ)) :
    wrapped i (ix2 r 0) = BitVec.ofNat 32 (e : ℕ) := by
  pointwise [wrapped]
  rw [h]
  clear h
  revert e; decide +kernel

/-- An index below 64 is in range. -/
theorem inRange_apply (w : IVec S32768x1 32) (r : Fin 32768) (e : Fin 64) (h : w (ix2 r 0) = BitVec.ofNat 32 (e : ℕ)) :
    inRange w (ix1 r) = 1#1 := by
  pointwise [inRange]
  rw [Finset.univ_unique, Finset.fold_singleton]
  show IntOp.andi (IntOp.andi (IntOp.cmpi .sge (w (ix2 r 0)) 0#32) (IntOp.cmpi .sle (w (ix2 r 0)) 63#32)) 1#1 = 1#1
  rw [h]
  clear h
  revert e; decide +kernel

/-- The row that an index in range names. -/
theorem takeRows_apply (c : FVec Ideal S64x64 .f32) (i : IVec S32768 32) (r : Fin 32768) (e k : Fin 64)
    (h : i (ix1 r) = BitVec.ofNat 32 (e : ℕ)) : takeRows c i (ix2 r k) = c (ix2 e k) := by
  have hw := wrapped_apply i r e h
  pointwise [takeRows]
  rw [inRange_apply _ r e hw, select_one]
  rw [ix2_eq_valueIdx] at hw
  rw [ix2_eq_valueIdx, ix2_eq_valueIdx]
  exact Routing.gather_row _ rfl rfl rfl rfl rfl c (wrapped i) r k e hw (by norm_num)

/-- The entry that an index in range names. -/
theorem takeVec_apply (v : FVec Ideal S64 .f32) (i : IVec S32768 32) (r : Fin 32768) (e : Fin 64)
    (h : i (ix1 r) = BitVec.ofNat 32 (e : ℕ)) : takeVec v i (ix1 r) = v (ix1 e) := by
  have hw := wrapped_apply i r e h
  pointwise [takeVec]
  rw [inRange_apply _ r e hw, select_one]
  rw [ix2_eq_valueIdx] at hw
  rw [ix1_eq_valueIdx, ix1_eq_valueIdx]
  exact Routing.gather_take1 _ rfl rfl rfl rfl v (wrapped i) r e hw (by norm_num)

/-! ## The results -/

/-- The step at row `r`, column `k`. -/
theorem stepped_apply (x d : FVec Ideal S32768x64 .f32) (w : FVec Ideal S32768 .f32) (r : Fin 32768) (k : Fin 64) :
    stepped x d w (ix2 r k) = x (ix2 r k) + weight (w (ix1 r)) * d (ix2 r k) := by
  pointwise [stepped]
  rfl

section
variable (x : FVec Ideal S32768x64 .f32) (c : FVec Ideal S64x64 .f32) (v : FVec Ideal S64 .f32)
  (hx : ∀ r k, ∃ a : ℝ, x (ix2 r k) = a) (hc : ∀ e k, ∃ a : ℝ, c (ix2 e k) = a) (r : Fin 32768)
include hx hc

/-- Of finite coordinates, the second result at `r` is the number of the center nearest to row `r`. -/
theorem refIdx_apply : refIdx x c (ix1 r) = BitVec.ofNat 32 (nearest (dist (row x r) (centers c)) : ℕ) := by
  have h : refIdx x c = leastIndex (distances x c) := rfl
  rw [h]
  exact leastIndex_apply _ r _ (distances_apply x c r) (dist_lt_top _ _ (hx r) hc _)

/-- Of finite coordinates, row `r` of the first result is row `r` moved towards its nearest center. -/
theorem refOut_apply (k : Fin 64) : refOut x c v (ix2 r k)
    = moved (row x r) (centers c) (fun e => v (ix1 e)) (nearest (dist (row x r) (centers c))) k := by
  have hi := refIdx_apply x c hx hc r
  unfold refOut
  rw [stepped_apply, takeVec_apply v _ r _ hi]
  show _ + _ * (takeRows c (refIdx x c) (ix2 r k) - x (ix2 r k)) = _
  rw [takeRows_apply c _ r _ k hi]
  rfl

end

end Cert.Proof.RefValue

end
-- ==== Proof.Equation.lean ====
/-
  THE EQUATION: of finite rows and finite centers, the kernel's two results are the reference's. The nearest center is the
  same, since the squared distance is the score plus a term that does not depend on the center, and the two forms of the
  step agree on real numbers.
-/
module

public import proofs.«01_k».proof.Proof.RefValue
public import proofs.«01_k».proof.Proof.KernelRun
public import proofs.«01_k».proof.Proof.Gen.Pre_finite

@[expose] public section

set_option maxRecDepth 16384

noncomputable section

namespace Cert.Proof.Equation

open Cert.KernelIdeal Cert.Proof.Nearest Cert.Proof.Attract Cert.Proof.RefRun Cert.Proof.RefValue Cert.Proof.KernelRun
open Idealize.ShloMosaic

section
variable (x : FVec Ideal S32768x64 .f32) (c : FVec Ideal S64x64 .f32) (v : FVec Ideal S64 .f32)

/-- What the precondition says of the rows: every coordinate is a real number. -/
theorem rows_real (h : (Cert.Pre_finite.fn x c v).1 = fun _ => 1#1) (r : Fin 32768) (k : Fin 64) : ∃ a : ℝ, x (ix2 r k) = a := by
  have h' : Ideal.cmp .olt (max (x (ix2 r k)) (-(x (ix2 r k)))) (Ideal.ofBits .f32 0x7F800000#32) = 1#1 := by
    rw [← congrFun h (ix2 r k)]
    pointwise [Cert.Pre_finite.fn]
    rfl
  rw [top_eq, Ideal.cmp] at h'
  refine real_of_abs_lt ?_
  by_contra hn
  simp [hn] at h'

/-- And of the centers. -/
theorem centers_real (h : (Cert.Pre_finite.fn x c v).2 = fun _ => 1#1) (e k : Fin 64) : ∃ a : ℝ, c (ix2 e k) = a := by
  have h' : Ideal.cmp .olt (max (c (ix2 e k)) (-(c (ix2 e k)))) (Ideal.ofBits .f32 0x7F800000#32) = 1#1 := by
    rw [← congrFun h (ix2 e k)]
    pointwise [Cert.Pre_finite.fn]
    rfl
  rw [top_eq, Ideal.cmp] at h'
  refine real_of_abs_lt ?_
  by_contra hn
  simp [hn] at h'

variable (hx : ∀ r k, ∃ a : ℝ, x (ix2 r k) = a) (hc : ∀ e k, ∃ a : ℝ, c (ix2 e k) = a)
include hx hc

/-- The two programs' second results are equal: the number of the center nearest to each row. -/
theorem idx_eq : refIdx x c = kerIdx x c := by
  funext i
  obtain ⟨r, rfl⟩ : ∃ r : Fin 32768, i = ix1 r := ⟨i 0, eq_ix1 i⟩
  rw [refIdx_apply x c hx hc r, kerIdx_apply, nearest_score _ _ (hx r) hc]

/-- The two programs' first results are equal: each row moved towards its nearest center. -/
theorem out_eq : refOut x c v = kerOut x c v := by
  funext i
  obtain ⟨r, j, rfl⟩ : ∃ (r : Fin 32768) (j : Fin 64), i = ix2 r j := ⟨i 0, i 1, eq_ix2 i⟩
  rw [refOut_apply x c v hx hc r j, kerOut_apply x c v r j _ (nearest_score _ _ (hx r) hc),
    step_eq _ _ _ (hx r j) (hc _ j) (weight_real _)]
  rfl

end

end Cert.Proof.Equation

end
-- ==== Proof.lean ====
/-
  The certificate: the frames of the kernel, of its idealization and of the reference, and the equality of the two programs'
  results on the extended reals. The mathematics is in the modules imported here: `Nearest` and `Attract` (the nearest
  center), `Block`, `KernelArray` and `KernelRun` (the kernel), `RefRun` and `RefValue` (the reference), `Equation`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.KernelRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel leaves its arguments unchanged, at any values. -/
theorem frame_kernel : Cert.quiescent_Kernel (hKernel := Cert.Kernel.Gen.facts) :=
  fun m g _ => Cert.Kernel.Gen.frame m g

/-- So it does on the extended reals. -/
theorem frame_ideal : Cert.quiescent_KernelIdeal (hKernelIdeal := Cert.KernelIdeal.Gen.facts) :=
  fun m g _ => Cert.KernelIdeal.Gen.frame m g

/-- The reference leaves its arguments unchanged: it runs host operations only, which write buffers of their own. -/
theorem frame_reference : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩) (RefRun.run_main m g)

/-- The two frames again, of the inputs the precondition admits. -/
theorem frame_ideal_finite : Cert.quiescent_KernelIdeal_pre_finite (hKernelIdeal := Cert.KernelIdeal.Gen.facts)
    (hPre_finite := Cert.Pre_finite.Gen.facts) :=
  fun m g _ => Cert.KernelIdeal.Gen.frame m g

/-- And of the reference. -/
theorem frame_reference_finite : Cert.quiescent_ReferenceIdeal_pre_finite (hReferenceIdeal := Cert.ReferenceIdeal.Gen.facts)
    (hPre_finite := Cert.Pre_finite.Gen.facts) := fun m g _ =>
  (θ_run Cert.ReferenceIdeal.defs _ _).mono
    (fun r h => ⟨fun c => (h c).2.2, Idealize.ShloMosaic.sem_eq_zero_of_no_sems (by decide) r.2⟩) (RefRun.run_main m g)

/-- Of finite rows and finite centers, both programs end with the kernel's two results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, _, KernelRun.run m g, ?_⟩
  refine (θ_run Cert.ReferenceIdeal.defs _ _).mono (fun r h c => ?_) (RefRun.run_main m' g')
  have hx := Equation.rows_real _ _ _ (hpre c).1
  have hc := Equation.centers_real _ _ _ (hpre c).2
  obtain ⟨h0, h1, hargs⟩ := h c
  obtain ⟨a0, a1, a2⟩ := hagree c
  refine ⟨h0.trans ?_, h1.trans ?_, hargs⟩
  · rw [a0, a1, a2]
    exact Equation.out_eq _ _ _ hx hc
  · rw [a0, a1]
    exact Equation.idx_eq _ _ hx hc

/-- The certificate: five claims, and the frames of the idealized programs under the precondition besides. -/
theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, trivial, algebraic⟩

end Cert.Proof

end
